-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_order [hPre_in_order : Cert.Pre_in_order.Facts] (m : (ℓ : Loc Cert.KernelIdeal.nD Cert.KernelIdeal.τ Cert.KernelIdeal.sig) → Buf (Elt Ideal) ℓ) : Prop :=
  ∀ c : Dev Cert.KernelIdeal.nD,
    (Cert.Pre_in_order.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_order [hPre_in_order : Cert.Pre_in_order.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_order.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_order [hKernelIdeal : Cert.KernelIdeal.Facts] [hPre_in_order : Cert.Pre_in_order.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_order m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_order [hReferenceIdeal : Cert.ReferenceIdeal.Facts] [hPre_in_order : Cert.Pre_in_order.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_order m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_in_order [hKernelIdeal : Cert.KernelIdeal.Facts] [hReferenceIdeal : Cert.ReferenceIdeal.Facts] [hPre_in_order : Cert.Pre_in_order.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_order m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_order : Cert.Pre_in_order.Facts),
    quiescent_Kernel (hKernel := hKernel)
    ∧ quiescent_KernelIdeal (hKernelIdeal := hKernelIdeal)
    ∧ quiescent_KernelIdeal_pre_in_order (hKernelIdeal := hKernelIdeal) (hPre_in_order := hPre_in_order)
    ∧ quiescent_ReferenceIdeal (hReferenceIdeal := hReferenceIdeal)
    ∧ quiescent_ReferenceIdeal_pre_in_order (hReferenceIdeal := hReferenceIdeal) (hPre_in_order := hPre_in_order)
    ∧ preserves_Kernel_KernelIdeal
    ∧ algebraic_KernelIdeal_ReferenceIdeal_pre_in_order (hKernelIdeal := hKernelIdeal) (hReferenceIdeal := hReferenceIdeal) (hPre_in_order := hPre_in_order)
-- ==== Pre_in_order.lean ====
abbrev S1x3x128x128x128 : Shape := ⟨5, ![1, 3, 128, 128, 128]⟩
abbrev S1000000x3x3 : Shape := ⟨3, ![1000000, 3, 3]⟩
abbrev S1x1000000 : Shape := ⟨2, ![1, 1000000]⟩
abbrev S_ : Shape := ⟨0, ![]⟩

class Facts : Prop where
  reducesTo_S1x1000000_S_d0_1 : S1x1000000.ReducesTo [0, 1] S_
  h_S_ : 0 < S_.numel

variable [Facts]

def fn {F : FTy → Type} [FloatOps F] (main_arg0 : FVec F S1x3x128x128x128 .f32) (main_arg1 : FVec F S1000000x3x3 .f32) (main_arg2 : IVec S1x1000000 32) : IVec S_ 1 :=
  let main_v0 : IVec S1x1000000 32 := iotaInDim S1x1000000 32 1
  let main_v1 : IVec S1x1000000 1 := cmpi .eq main_arg2 main_v0
  let main_c : IVec S_ 1 := constantI S_ 1 1#1
  let main_v2 : IVec S_ 1 := (fun x v => Host.reduce IntOp.andi x v reducesTo_S1x1000000_S_d0_1 h_S_) main_v1 main_c
  main_v2
-- ==== Kernel.lean ====
abbrev S1x3x128x128x128 : Shape := ⟨5, ![1, 3, 128, 128, 128]⟩
abbrev S1000000x3x3 : Shape := ⟨3, ![1000000, 3, 3]⟩
abbrev S1x1000000 : Shape := ⟨2, ![1, 1000000]⟩
abbrev S3x3x1000000 : Shape := ⟨3, ![3, 3, 1000000]⟩
abbrev S1x3x16x128x128 : Shape := ⟨5, ![1, 3, 16, 128, 128]⟩
abbrev S3x3x262144 : Shape := ⟨3, ![3, 3, 262144]⟩
abbrev S1x1x262144 : Shape := ⟨3, ![1, 1, 262144]⟩
abbrev S262144 : Shape := ⟨1, ![262144]⟩
abbrev S16x128x128 : Shape := ⟨3, ![16, 128, 128]⟩
abbrev S1x1x16x128x128 : Shape := ⟨5, ![1, 1, 16, 128, 128]⟩

abbrev nBuf : Space → Nat
  | .hbm => 5
  | .vmem => 6
  | .smem => 0
  | _ => 0

abbrev bufTy : (tb : Table) → Fin (tcTables nBuf tb) → BufTy
  | .hbm, ⟨0, _⟩ => ⟨S1x3x128x128x128, .f32⟩
  | .hbm, ⟨1, _⟩ => ⟨S1000000x3x3, .f32⟩
  | .hbm, ⟨2, _⟩ => ⟨S1x1000000, .i32⟩
  | .hbm, ⟨3, _⟩ => ⟨S3x3x1000000, .f32⟩
  | .hbm, ⟨4, _⟩ => ⟨S1x3x128x128x128, .f32⟩
  | .local _ .vmem, ⟨0, _⟩ => ⟨S1x3x16x128x128, .f32⟩
  | .local _ .vmem, ⟨1, _⟩ => ⟨S1x3x16x128x128, .f32⟩
  | .local _ .vmem, ⟨2, _⟩ => ⟨S3x3x262144, .f32⟩
  | .local _ .vmem, ⟨3, _⟩ => ⟨S3x3x262144, .f32⟩
  | .local _ .vmem, ⟨4, _⟩ => ⟨S1x3x16x128x128, .f32⟩
  | .local _ .vmem, ⟨5, _⟩ => ⟨S1x3x16x128x128, .f32⟩
  | _, _ => ⟨S1x3x128x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c3_i32 : BitVec 32 := 3#32
  let v0 : BitVec 1 := Scalar.cmpi .slt arg0 c3_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c3_i32_0 : BitVec 32 := 3#32
  let v3 : BitVec 1 := Scalar.cmpi .eq arg0 c3_i32_0
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c3_i32_2 : BitVec 32 := 3#32
  let v6 : BitVec 1 := Scalar.cmpi .sgt arg0 c3_i32_2
  let v7 : BitVec 32 := Scalar.extui v6
  let c0_i32_3 : BitVec 32 := 0#32
  let v8 : BitVec 1 := Scalar.cmpi .ne v7 c0_i32_3
  v8

def cc0_transform_0 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, c0_i32_1.toNat, c0_i32_2.toNat]

def cc0_transform_1 (i : grid0.Coords) : Fin 3 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, c0_i32_1.toNat, c0_i32_2.toNat]

abbrev stage0_0 : Fin 2 → Memref sig .tc .vmem S1x3x16x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x3x262144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3x16x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S1x3x128x128x128 : Shape := ⟨5, ![1, 3, 128, 128, 128]⟩
abbrev S1000000x3x3 : Shape := ⟨3, ![1000000, 3, 3]⟩
abbrev S1x1000000 : Shape := ⟨2, ![1, 1000000]⟩
abbrev S3x128x128x128 : Shape := ⟨4, ![3, 128, 128, 128]⟩
abbrev S3x2097152x1 : Shape := ⟨3, ![3, 2097152, 1]⟩
abbrev S2097152x3x1 : Shape := ⟨3, ![2097152, 3, 1]⟩
abbrev S1000000 : Shape := ⟨1, ![1000000]⟩
abbrev S_ : Shape := ⟨0, ![]⟩
abbrev S1000000x1 : Shape := ⟨2, ![1000000, 1]⟩
abbrev S1 : Shape := ⟨1, ![1]⟩
abbrev S1x1 : Shape := ⟨2, ![1, 1]⟩
abbrev S1000000x3x1 : Shape := ⟨3, ![1000000, 3, 1]⟩
abbrev S128x128x128x3x1 : Shape := ⟨5, ![128, 128, 128, 3, 1]⟩

abbrev nBuf : Space → Nat
  | .hbm => 42
  | .vmem => 0
  | .smem => 0
  | _ => 0

abbrev bufTy : (tb : Table) → Fin (tcTables nBuf tb) → BufTy
  | .hbm, ⟨0, _⟩ => ⟨S1x3x128x128x128, .f32⟩
  | .hbm, ⟨1, _⟩ => ⟨S1000000x3x3, .f32⟩
  | .hbm, ⟨2, _⟩ => ⟨S1x1000000, .i32⟩
  | .hbm, ⟨3, _⟩ => ⟨S3x128x128x128, .f32⟩
  | .hbm, ⟨4, _⟩ => ⟨S3x2097152x1, .f32⟩
  | .hbm, ⟨5, _⟩ => ⟨S2097152x3x1, .f32⟩
  | .hbm, ⟨6, _⟩ => ⟨S1000000, .i32⟩
  | .hbm, ⟨7, _⟩ => ⟨S_, .i32⟩
  | .hbm, ⟨8, _⟩ => ⟨S1000000, .i32⟩
  | .hbm, ⟨9, _⟩ => ⟨S1000000, .i1⟩
  | .hbm, ⟨10, _⟩ => ⟨S_, .i32⟩
  | .hbm, ⟨11, _⟩ => ⟨S1000000, .i32⟩
  | .hbm, ⟨12, _⟩ => ⟨S1000000, .i32⟩
  | .hbm, ⟨13, _⟩ => ⟨S1000000, .i32⟩
  | .hbm, ⟨14, _⟩ => ⟨S1000000x1, .i32⟩
  | .hbm, ⟨15, _⟩ => ⟨S1, .i32⟩
  | .hbm, ⟨16, _⟩ => ⟨S_, .i32⟩
  | .hbm, ⟨17, _⟩ => ⟨S1000000x1, .i32⟩
  | .hbm, ⟨18, _⟩ => ⟨S1000000x1, .i1⟩
  | .hbm, ⟨19, _⟩ => ⟨S1x1, .i32⟩
  | .hbm, ⟨20, _⟩ => ⟨S1000000x1, .i32⟩
  | .hbm, ⟨21, _⟩ => ⟨S1000000x1, .i1⟩
  | .hbm, ⟨22, _⟩ => ⟨S1000000x1, .i1⟩
  | .hbm, ⟨23, _⟩ => ⟨S_, .i1⟩
  | .hbm, ⟨24, _⟩ => ⟨S1000000, .i1⟩
  | .hbm, ⟨25, _⟩ => ⟨S1000000x3x1, .f32⟩
  | .hbm, ⟨26, _⟩ => ⟨S1000000x3x1, .i1⟩
  | .hbm, ⟨27, _⟩ => ⟨S_, .f32⟩
  | .hbm, ⟨28, _⟩ => ⟨S1000000x3x1, .f32⟩
  | .hbm, ⟨29, _⟩ => ⟨S1000000x3x1, .f32⟩
  | .hbm, ⟨30, _⟩ => ⟨S1000000x3x1, .f32⟩
  | .hbm, ⟨31, _⟩ => ⟨S_, .i32⟩
  | .hbm, ⟨32, _⟩ => ⟨S1000000, .i32⟩
  | .hbm, ⟨33, _⟩ => ⟨S1000000, .i1⟩
  | .hbm, ⟨34, _⟩ => ⟨S_, .i32⟩
  | .hbm, ⟨35, _⟩ => ⟨S1000000, .i32⟩
  | .hbm, ⟨36, _⟩ => ⟨S1000000, .i32⟩
  | .hbm, ⟨37, _⟩ => ⟨S1000000, .i32⟩
  | .hbm, ⟨38, _⟩ => ⟨S1000000x1, .i32⟩
  | .hbm, ⟨39, _⟩ => ⟨S2097152x3x1, .f32⟩
  | .hbm, ⟨40, _⟩ => ⟨S128x128x128x3x1, .f32⟩
  | .hbm, ⟨41, _⟩ => ⟨S1x3x128x128x128, .f32⟩
  | _, _ => ⟨S1x3x128x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v4 : Ref sig .tc := ⟨.hbm, 29, rfl⟩
abbrev main_v5 : Ref sig .tc := ⟨.hbm, 30, rfl⟩
abbrev main_c : Ref sig .tc := ⟨.hbm, 31, rfl⟩
abbrev main_v6 : Ref sig .tc := ⟨.hbm, 32, rfl⟩
abbrev main_v7 : Ref sig .tc := ⟨.hbm, 33, rfl⟩
abbrev main_c_0 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩

abbrev nD : Nat := 1
abbrev τ : Topo := Topo.v7x

variable {F : FTy → Type} [FloatOps F]
-- ==== Proof.Blocks.lean ====
/- What one grid point of the kernel computes, as plain functions of the two input blocks, and the reading of the
   kernel's reshapes, loads and mask at an index. -/
module

public import proofs.«01_k».proof.Proof.Gen.KernelIdeal.Frame
public import proofs.«01_k».proof.Proof.Gen.KernelIdeal.Skeleton
public import Idealize.ShloMosaic.Lib.Pointwise.Index
public import Idealize.ShloMosaic.Lib.Pipeline.ValueKit.Tiles
public import Idealize.ShloMosaic.Lib.WholeRead

@[expose] public section

set_option maxRecDepth 16384

noncomputable section

namespace Cert.Rotation

open Idealize.ShloMosaic Cert.KernelIdeal Cert.KernelIdeal.Gen

variable {F : FTy → Type} [FloatOps F]

/-! ## The kernel's arrangement of a row and of a channel -/

/-- A row of 262144 coefficients laid out as 16 planes of 128 by 128. -/
abbrev planes (r : FVec F S1x1x262144 .f32) : FVec F S16x128x128 .f32 :=
  shapeCast S16x128x128 (shapeCast S262144 r shapeCasts_S1x1x262144_S262144) shapeCasts_S262144_S16x128x128

/-- One channel of a block, its two unit axes dropped. -/
abbrev channel (s : FVec F S1x1x16x128x128 .f32) : FVec F S16x128x128 .f32 :=
  shapeCast S16x128x128 s shapeCasts_S1x1x16x128x128_S16x128x128

/-- A channel's values with the two unit axes put back. -/
abbrev stored (v : FVec F S16x128x128 .f32) : FVec F S1x1x16x128x128 .f32 :=
  shapeCast S1x1x16x128x128 v shapeCasts_S16x128x128_S1x1x16x128x128

/-- The three products of a row of matrices with the three channels, summed from the left. -/
abbrev product (r0 r1 r2 : FVec F S1x1x262144 .f32) (s0 s1 s2 : FVec F S1x1x16x128x128 .f32) :
    FVec F S16x128x128 .f32 :=
  addf (addf (mulf (planes r0) (channel s0)) (mulf (planes r1) (channel s1))) (mulf (planes r2) (channel s2))

/-- The position within the block's 262144 voxels of the voxel at `(a, b, d)`. -/
def place (a : Fin 16) (b d : Fin 128) : Fin 262144 := ⟨a * 16384 + b * 128 + d, by omega⟩

/-! ## Reading them at an index -/

/-- The planes of a row, read at `(a, b, d)`: the row at that voxel's position. -/
theorem planes_at (r : FVec F S1x1x262144 .f32) (a : Fin 16) (b d : Fin 128) :
    planes r (ix3 a b d) = r (ix3 0 0 (place a b d)) := by
  refine (shapeCast_apply _ _ _ (ix1 (place a b d)) ?_).trans (shapeCast_apply _ _ _ (ix3 0 0 (place a b d)) ?_)
  · rw [Shape.rowMajor_val_one, Shape.rowMajor_val_three]
    show (a : Nat) * 16384 + b * 128 + d = (a * 128 + b) * 128 + d
    omega
  · rw [Shape.rowMajor_val_one, Shape.rowMajor_val_three]
    show ((0 : Nat) * 1 + 0) * 262144 + (place a b d : Nat) = place a b d
    omega

/-- A channel read at `(a, b, d)`. -/
theorem channel_at (s : FVec F S1x1x16x128x128 .f32) (a : Fin 16) (b d : Fin 128) :
    channel s (ix3 a b d) = s (ix5 0 0 a b d) := by
  refine shapeCast_apply _ _ _ (ix5 0 0 a b d) ?_
  rw [Shape.rowMajor_val_five, Shape.rowMajor_val_three]
  show (((((0 : Nat) * 1 + 0) * 16 + a) * 128 + b) * 128 + d : Nat) = (a * 128 + b) * 128 + d
  omega

/-- The stored form read at `(0, 0, a, b, d)`. -/
theorem stored_at (v : FVec F S16x128x128 .f32) (z w : Fin 1) (a : Fin 16) (b d : Fin 128) :
    stored v (ix5 z w a b d) = v (ix3 a b d) := by
  refine shapeCast_apply _ _ _ (ix3 a b d) ?_
  rw [Shape.rowMajor_val_five, Shape.rowMajor_val_three]
  show ((a : Nat) * 128 + b) * 128 + d = (((((z : Nat) * 1 + w) * 16 + a) * 128 + b) * 128 + d : Nat)
  omega

/-! ## What a point computes -/

/-- The rotated value of the block `x0` at `y`: row `y 1` of the matrix at `y`'s position, times the three channels. -/
def turned (x0 : S1x3x16x128x128.Idx → Elt F .f32) (x1 : S3x3x262144.Idx → Elt F .f32) (y : S1x3x16x128x128.Idx) :
    Elt F .f32 :=
  let term (k : Fin 3) : F .f32 :=
    FloatOps.mulf (x1 (ix3 (y 1) k (place (y 2) (y 3) (y 4)))) (x0 (ix5 0 k (y 2) (y 3) (y 4)))
  FloatOps.addf (FloatOps.addf (term 0) (term 1)) (term 2)

/-- The block in which the first 213568 voxels are rotated and the others kept. -/
def partly (x0 : S1x3x16x128x128.Idx → Elt F .f32) (x1 : S3x3x262144.Idx → Elt F .f32) (y : S1x3x16x128x128.Idx) :
    Elt F .f32 :=
  if (place (y 2) (y 3) (y 4) : Nat) < 213568 then turned x0 x1 y else x0 y

/-- The load of row `(c, k)` of the coefficients, read at `q`. -/
theorem row_load (x1 : S3x3x262144.Idx → Elt F .f32) (c k : Nat) (hc : c < 3) (hk : k < 3)
    (inb : ∀ a, (![c, k, 0] : Fin 3 → Nat) a + S1x1x262144.size a ≤ S3x3x262144.size a) (z w : Fin 1) (q : Fin 262144) :
    x1 ((Rect.unit (s := S3x3x262144) ![c, k, 0] S1x1x262144.size inb).toLoadRect.idx (ix3 z w q)) =
      x1 (ix3 ⟨c, hc⟩ ⟨k, hk⟩ q) := by
  refine congrArg x1 (funext fun a => Fin.ext ((Rect.idx_unit_val _ _ _ _ a).trans ?_))
  match a with
  | ⟨0, _⟩ => show c + (z : Nat) = c; omega
  | ⟨1, _⟩ => show k + (w : Nat) = k; omega
  | ⟨2, _⟩ => show 0 + (q : Nat) = q; omega

/-- The load of channel `k` of the block, read at `(a, b, d)`. -/
theorem channel_load (x0 : S1x3x16x128x128.Idx → Elt F .f32) (k : Nat) (hk : k < 3)
    (inb : ∀ a, (![0, k, 0, 0, 0] : Fin 5 → Nat) a + S1x1x16x128x128.size a ≤ S1x3x16x128x128.size a)
    (z w : Fin 1) (a : Fin 16) (b d : Fin 128) :
    x0 ((Rect.unit (s := S1x3x16x128x128) ![0, k, 0, 0, 0] S1x1x16x128x128.size inb).toLoadRect.idx (ix5 z w a b d)) =
      x0 (ix5 0 ⟨k, hk⟩ a b d) := by
  refine congrArg x0 (funext fun e => Fin.ext ((Rect.idx_unit_val _ _ _ _ e).trans ?_))
  match e with
  | ⟨0, _⟩ => show 0 + (z : Nat) = 0; omega
  | ⟨1, _⟩ => show k + (w : Nat) = k; omega
  | ⟨2, _⟩ => show 0 + (a : Nat) = a; omega
  | ⟨3, _⟩ => show 0 + (b : Nat) = b; omega
  | ⟨4, _⟩ => show 0 + (d : Nat) = d; omega

/-- The kernel's mask at a voxel: set exactly at the first 213568 positions of the block. -/
theorem mask_at (a : Fin 16) (b d : Fin 128) :
    k0_pay10 (ix3 a b d) = 1#1 ↔ (place a b d : Nat) < 213568 := by
  have h : k0_pay10 (ix3 a b d) = IntOp.cmpi .slt
      (IntOp.addi (IntOp.addi (IntOp.muli (BitVec.ofNat 32 (a : Nat)) 16384#32) (IntOp.muli (BitVec.ofNat 32 (b : Nat)) 128#32))
        (BitVec.ofNat 32 (d : Nat))) 213568#32 := by
    unfold k0_pay10
    have e0 := iota_single_apply .tc S16x128x128 32 0 iota_S16x128x128_d0_w32 (ix3 a b d)
    have e1 := iota_single_apply .tc S16x128x128 32 1 iota_S16x128x128_d1_w32 (ix3 a b d)
    have e2 := iota_single_apply .tc S16x128x128 32 2 iota_S16x128x128_d2_w32 (ix3 a b d)
    simp only [ix3_0, ix3_1, ix3_2] at e0 e1 e2
    rw [← e0, ← e1, ← e2]
    rfl
  have ha := a.isLt
  have hb := b.isLt
  have hd := d.isLt
  rw [h, WordCmp.muli_ofNat, WordCmp.muli_ofNat, WordCmp.addi_ofNat, WordCmp.addi_ofNat,
    WordCmp.cmpi_slt_ofNat_eq_one_iff (by show _ < 2147483648; omega) (by decide)]
  rfl

/-- Within channel `c`'s tile an index of the block is `(0, c, a, b, d)`. -/
theorem tile_split {c : Nat} (hc : c < 3) (y : S1x3x16x128x128.Idx) (x : S1x1x16x128x128.Idx)
    (hx : ∀ a, (y a : Nat) = (![0, c, 0, 0, 0] : Fin 5 → Nat) a + x a) :
    ∃ a : Fin 16, ∃ b d : Fin 128, y = ix5 0 ⟨c, hc⟩ a b d ∧ x = ix5 0 0 a b d := by
  refine ⟨x 2, x 3, x 4, ?_, ?_⟩
  · funext e
    apply Fin.ext
    match e with
    | ⟨0, _⟩ => have := (x 0).isLt; have h := hx 0; change _ < 1 at this; change (y 0 : Nat) = 0 + x 0 at h; show (y 0 : Nat) = 0; omega
    | ⟨1, _⟩ => have := (x 1).isLt; have h := hx 1; change _ < 1 at this; change (y 1 : Nat) = c + x 1 at h; show (y 1 : Nat) = c; omega
    | ⟨2, _⟩ => have h := hx 2; change (y 2 : Nat) = 0 + x 2 at h; show (y 2 : Nat) = x 2; omega
    | ⟨3, _⟩ => have h := hx 3; change (y 3 : Nat) = 0 + x 3 at h; show (y 3 : Nat) = x 3; omega
    | ⟨4, _⟩ => have h := hx 4; change (y 4 : Nat) = 0 + x 4 at h; show (y 4 : Nat) = x 4; omega
  · funext e
    apply Fin.ext
    match e with
    | ⟨0, _⟩ => have := (x 0).isLt; change _ < 1 at this; show (x 0 : Nat) = 0; omega
    | ⟨1, _⟩ => have := (x 1).isLt; change _ < 1 at this; show (x 1 : Nat) = 0; omega
    | ⟨2, _⟩ => rfl
    | ⟨3, _⟩ => rfl
    | ⟨4, _⟩ => rfl

/-! ## The three kinds of store -/

section Stores

variable (arg1 : Memref sig .tc .vmem S1x3x16x128x128 .f32) (h1 : arg1.IsWhole)
  (arg2 : Memref sig .tc .vmem S3x3x262144 .f32) (h2 : arg2.IsWhole)
  (x0 : S1x3x16x128x128.Idx → Elt F .f32) (x1 : S3x3x262144.Idx → Elt F .f32)

/-- What the kernel loads as row `(c, k)` of the coefficients when the buffer holds `x1`. -/
abbrev rowLoaded (c k : Nat)
    (inb : ∀ a, (![c, k, 0] : Fin 3 → Nat) a + S1x1x262144.size a ≤ S3x3x262144.size a) : FVec F S1x1x262144 .f32 :=
  View.readAt (Elt F) arg2.view (Rect.unit (s := S3x3x262144) ![c, k, 0] S1x1x262144.size inb).toLoadRect (h2.unread x1)

/-- What the kernel loads as channel `k` when the buffer holds `x0`. -/
abbrev channelLoaded (k : Nat)
    (inb : ∀ a, (![0, k, 0, 0, 0] : Fin 5 → Nat) a + S1x1x16x128x128.size a ≤ S1x3x16x128x128.size a) :
    FVec F S1x1x16x128x128 .f32 :=
  View.readAt (Elt F) arg1.view (Rect.unit (s := S1x3x16x128x128) ![0, k, 0, 0, 0] S1x1x16x128x128.size inb).toLoadRect
    (h1.unread x0)

/-- The planes of a loaded row, read at a voxel. -/
theorem planes_loaded (c k : Nat) (hc : c < 3) (hk : k < 3) (inb) (a : Fin 16) (b d : Fin 128) :
    planes (rowLoaded arg2 h2 x1 c k inb) (ix3 a b d) = x1 (ix3 ⟨c, hc⟩ ⟨k, hk⟩ (place a b d)) :=
  (planes_at _ a b d).trans ((h2.readAt_unread _ _ _).trans (row_load x1 c k hc hk inb 0 0 _))

/-- A loaded channel, read at a voxel. -/
theorem channel_loaded (k : Nat) (hk : k < 3) (inb) (a : Fin 16) (b d : Fin 128) :
    channel (channelLoaded arg1 h1 x0 k inb) (ix3 a b d) = x0 (ix5 0 ⟨k, hk⟩ a b d) :=
  (channel_at _ a b d).trans ((h1.readAt_unread _ _ _).trans (channel_load x0 k hk inb 0 0 a b d))

/-- The products of the loads, read at a voxel: the rotated value there. -/
theorem product_loaded (c : Nat) (hc : c < 3) (i0 i1 i2) (j0 j1 j2) (a : Fin 16) (b d : Fin 128) :
    product (rowLoaded arg2 h2 x1 c 0 i0) (rowLoaded arg2 h2 x1 c 1 i1) (rowLoaded arg2 h2 x1 c 2 i2)
        (channelLoaded arg1 h1 x0 0 j0) (channelLoaded arg1 h1 x0 1 j1) (channelLoaded arg1 h1 x0 2 j2) (ix3 a b d) =
      turned x0 x1 (ix5 0 ⟨c, hc⟩ a b d) := by
  have p0 := planes_loaded arg2 h2 x1 c 0 hc (by omega) i0 a b d
  have p1 := planes_loaded arg2 h2 x1 c 1 hc (by omega) i1 a b d
  have p2 := planes_loaded arg2 h2 x1 c 2 hc (by omega) i2 a b d
  have s0 := channel_loaded arg1 h1 x0 0 (by omega) j0 a b d
  have s1 := channel_loaded arg1 h1 x0 1 (by omega) j1 a b d
  have s2 := channel_loaded arg1 h1 x0 2 (by omega) j2 a b d
  exact congrArg₂ FloatOps.addf (congrArg₂ FloatOps.addf (congrArg₂ FloatOps.mulf p0 s0) (congrArg₂ FloatOps.mulf p1 s1))
    (congrArg₂ FloatOps.mulf p2 s2)

/-- A channel stored as the products of the loads holds the rotated values. -/
theorem turned_tile (c : Nat) (hc : c < 3) (i0 i1 i2) (j0 j1 j2) (y : S1x3x16x128x128.Idx) :
    View.TileAt (Val := Elt F) (S := S1x3x16x128x128) (e := .f32) y ![0, c, 0, 0, 0] S1x1x16x128x128.size
      (stored (product (rowLoaded arg2 h2 x1 c 0 i0) (rowLoaded arg2 h2 x1 c 1 i1) (rowLoaded arg2 h2 x1 c 2 i2)
        (channelLoaded arg1 h1 x0 0 j0) (channelLoaded arg1 h1 x0 1 j1) (channelLoaded arg1 h1 x0 2 j2)))
      (turned x0 x1 y) := by
  intro x hx
  obtain ⟨a, b, d, rfl, rfl⟩ := tile_split hc y x hx
  exact (stored_at _ 0 0 a b d).trans (product_loaded arg1 h1 arg2 h2 x0 x1 c hc i0 i1 i2 j0 j1 j2 a b d)

/-- A channel stored under the mask holds the rotated values in the first 213568 voxels and the block's own beyond. -/
theorem partly_tile (c : Nat) (hc : c < 3) (i0 i1 i2) (j0 j1 j2) (j) (y : S1x3x16x128x128.Idx) :
    View.TileAt (Val := Elt F) (S := S1x3x16x128x128) (e := .f32) y ![0, c, 0, 0, 0] S1x1x16x128x128.size
      (stored (select k0_pay10
        (product (rowLoaded arg2 h2 x1 c 0 i0) (rowLoaded arg2 h2 x1 c 1 i1) (rowLoaded arg2 h2 x1 c 2 i2)
          (channelLoaded arg1 h1 x0 0 j0) (channelLoaded arg1 h1 x0 1 j1) (channelLoaded arg1 h1 x0 2 j2))
        (channel (channelLoaded arg1 h1 x0 c j))))
      (partly x0 x1 y) := by
  intro x hx
  obtain ⟨a, b, d, rfl, rfl⟩ := tile_split hc y x hx
  refine (stored_at _ 0 0 a b d).trans ?_
  have hm := mask_at a b d
  have hp := product_loaded arg1 h1 arg2 h2 x0 x1 c hc i0 i1 i2 j0 j1 j2 a b d
  have hs := channel_loaded arg1 h1 x0 c hc j a b d
  by_cases h : (place a b d : Nat) < 213568
  · exact ((if_pos (hm.mpr h)).trans hp).trans (if_pos h).symm
  · exact ((if_neg (fun e => h (hm.mp e))).trans hs).trans (if_neg h).symm

/-- A channel stored as it was loaded holds the block's own values. -/
theorem kept_tile (c : Nat) (hc : c < 3) (j) (y : S1x3x16x128x128.Idx) :
    View.TileAt (Val := Elt F) (S := S1x3x16x128x128) (e := .f32) y ![0, c, 0, 0, 0] S1x1x16x128x128.size
      (stored (channel (channelLoaded arg1 h1 x0 c j))) (x0 y) := by
  intro x hx
  obtain ⟨a, b, d, rfl, rfl⟩ := tile_split hc y x hx
  exact (stored_at _ 0 0 a b d).trans (channel_loaded arg1 h1 x0 c hc j a b d)

end Stores

end Cert.Rotation
-- ==== Proof.Body.lean ====
/- The kernel's body at one grid point: for each of its three branches, what it leaves in the result's buffer. -/
module

public import proofs.«01_k».proof.Proof.Blocks
public import Idealize.ShloMosaic.Lib.Exec
public import Idealize.ShloMosaic.Lib.Ring

@[expose] public section

set_option maxRecDepth 16384

noncomputable section

namespace Cert.Rotation

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- On buffers holding `x0` and `x1`, with anything in the result's, the body at point `i` ends with the first two as they
    were and `out` in the result's. -/
def Leaves (c : Dev nD) (i : grid0.Coords) (arg1 : Memref sig .tc .vmem S1x3x16x128x128 .f32) (h1 : arg1.IsWhole)
    (arg2 : Memref sig .tc .vmem S3x3x262144 .f32) (h2 : arg2.IsWhole)
    (arg3 : Memref sig .tc .vmem S1x3x16x128x128 .f32) (h3 : arg3.IsWhole)
    (x0 : Vec F S1x3x16x128x128 .f32) (x1 : Vec F S3x3x262144 .f32) (out : Vec F S1x3x16x128x128 .f32) : Prop :=
  ∀ (E : Set ℕ) (K : PUnit → sProp 𝕄),
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare out) -∗ K ⟨⟩))
      ⊢ wp frame (wpE (defs₀ (F := F)) Variants.none c none) E (cc0__body i arg1 h1 arg2 h2 arg3 h3) K

/-- Three channel stores that each hold `out` where they write leave the whole buffer at `out`. -/
theorem read_three (v : View sig .tc .vmem S1x3x16x128x128 .f32) (f : v.ty.Contents (Elt F))
    (i0 i1 i2) (w0 w1 w2 : S1x1x16x128x128.Idx → Elt F .f32) (out : Vec F S1x3x16x128x128 .f32)
    (e0 : ∀ y, View.TileAt (Val := Elt F) (S := S1x3x16x128x128) (e := .f32) y ![0, 0, 0, 0, 0] S1x1x16x128x128.size w0 (out y))
    (e1 : ∀ y, View.TileAt (Val := Elt F) (S := S1x3x16x128x128) (e := .f32) y ![0, 1, 0, 0, 0] S1x1x16x128x128.size w1 (out y))
    (e2 : ∀ y, View.TileAt (Val := Elt F) (S := S1x3x16x128x128) (e := .f32) y ![0, 2, 0, 0, 0] S1x1x16x128x128.size w2 (out y)) :
    v.read (Elt F) (v.writes (Elt F) f
      [⟨Rect.unit (s := S1x3x16x128x128) ![0, 2, 0, 0, 0] S1x1x16x128x128.size i2, w2⟩,
       ⟨Rect.unit (s := S1x3x16x128x128) ![0, 1, 0, 0, 0] S1x1x16x128x128.size i1, w1⟩,
       ⟨Rect.unit (s := S1x3x16x128x128) ![0, 0, 0, 0, 0] S1x1x16x128x128.size i0, w0⟩]) = out := by
  have hc : ∀ y : S1x3x16x128x128.Idx, ∃ p ∈
      ([⟨Rect.unit (s := S1x3x16x128x128) ![0, 2, 0, 0, 0] S1x1x16x128x128.size i2, w2⟩,
       ⟨Rect.unit (s := S1x3x16x128x128) ![0, 1, 0, 0, 0] S1x1x16x128x128.size i1, w1⟩,
       ⟨Rect.unit (s := S1x3x16x128x128) ![0, 0, 0, 0, 0] S1x1x16x128x128.size i0, w0⟩] :
        List (View.Piece (Elt F) S1x3x16x128x128 .f32)), y ∈ p.1.set := fun y =>
    View.cover_of_tiled (s := S1x3x16x128x128) _ S1x1x16x128x128.size rfl y
  refine (View.read_writes_eq_canon _ _ _ hc).trans (funext fun y => ?_)
  exact View.canon_eq_of_allAt _ y _ (hc y) (View.allAt_cons_unit _ _ _ _ _ (e2 y) (View.allAt_cons_unit _ _ _ _ _ (e1 y)
    (View.allAt_cons_unit _ _ _ _ _ (e0 y) (View.allAt_nil y _))))

section Points

variable (c : Dev nD) (i : grid0.Coords) (arg1 : Memref sig .tc .vmem S1x3x16x128x128 .f32) (h1 : arg1.IsWhole)
  (arg2 : Memref sig .tc .vmem S3x3x262144 .f32) (h2 : arg2.IsWhole)
  (arg3 : Memref sig .tc .vmem S1x3x16x128x128 .f32) (h3 : arg3.IsWhole)
  (x0 : Vec F S1x3x16x128x128 .f32) (x1 : Vec F S3x3x262144 .f32)

set_option maxHeartbeats 1000000 in
/-- A point past the rotated voxels keeps its block. -/
theorem keeps (hc1 : ¬ k0_cond1 i = 1#1) (hc2 : ¬ k0_cond2 i = 1#1) (hc3 : k0_cond3 i = 1#1) :
    Leaves c i arg1 h1 arg2 h2 arg3 h3 x0 x1 x0 := by
  intro E K
  simp only [cc0__body_eq_skeleton]
  unfold cc0__body_skel owns
  iintro ⟨⟨%f0, %e0, H0⟩, ⟨%f1, %e1, H1⟩, ⟨%d, %f, -, H⟩, Hk⟩
  obtain rfl := h1.eq_unread e0
  obtain rfl := h2.eq_unread e1
  sl_exec (disch := first | sl_exact hc1 | sl_exact hc2 | sl_exact hc3)
  sl_step
  iapply Hk
  isplitl [H0]
  · iexists _; isplitr; · ipureintro; exact h1.read_unread _
    iexact H0
  isplitl [H1]
  · iexists _; isplitr; · ipureintro; exact h2.read_unread _
    iexact H1
  iexists _
  isplitr
  swap; · iexact H
  ipureintro
  refine read_three _ _ _ _ _ _ _ _ _ (fun y => ?_) (fun y => ?_) (fun y => ?_)
  · exact kept_tile arg1 h1 x0 0 (by omega) _ y
  · exact kept_tile arg1 h1 x0 1 (by omega) _ y
  · exact kept_tile arg1 h1 x0 2 (by omega) _ y

set_option maxHeartbeats 1000000 in
/-- A point whose voxels are all rotated leaves the rotated block. -/
theorem turns (hc1 : k0_cond1 i = 1#1) (hc2 : ¬ k0_cond2 i = 1#1) (hc3 : ¬ k0_cond3 i = 1#1) :
    Leaves c i arg1 h1 arg2 h2 arg3 h3 x0 x1 (turned x0 x1) := by
  intro E K
  simp only [cc0__body_eq_skeleton]
  unfold cc0__body_skel
  simp only [k0_part1_eq_skeleton, k0_part2_eq_skeleton]
  unfold owns
  iintro ⟨⟨%f0, %e0, H0⟩, ⟨%f1, %e1, H1⟩, ⟨%d, %f, -, H⟩, Hk⟩
  obtain rfl := h1.eq_unread e0
  obtain rfl := h2.eq_unread e1
  sl_exec (disch := first | sl_exact hc1 | sl_exact hc2 | sl_exact hc3)
  sl_step
  iapply Hk
  isplitl [H0]
  · iexists _; isplitr; · ipureintro; exact h1.read_unread _
    iexact H0
  isplitl [H1]
  · iexists _; isplitr; · ipureintro; exact h2.read_unread _
    iexact H1
  iexists _
  isplitr
  swap; · iexact H
  ipureintro
  refine read_three _ _ _ _ _ _ _ _ _ (fun y => ?_) (fun y => ?_) (fun y => ?_)
  · exact turned_tile arg1 h1 arg2 h2 x0 x1 0 (by omega) _ _ _ _ _ _ y
  · exact turned_tile arg1 h1 arg2 h2 x0 x1 1 (by omega) _ _ _ _ _ _ y
  · exact turned_tile arg1 h1 arg2 h2 x0 x1 2 (by omega) _ _ _ _ _ _ y

set_option maxHeartbeats 1000000 in
/-- The point where the rotated voxels end leaves the partly rotated block. -/
theorem divides (hc1 : ¬ k0_cond1 i = 1#1) (hc2 : k0_cond2 i = 1#1) (hc3 : ¬ k0_cond3 i = 1#1) :
    Leaves c i arg1 h1 arg2 h2 arg3 h3 x0 x1 (partly x0 x1) := by
  intro E K
  simp only [cc0__body_eq_skeleton]
  unfold cc0__body_skel
  simp only [k0_part3_eq_skeleton, k0_part4_eq_skeleton, k0_part5_eq_skeleton]
  unfold owns
  iintro ⟨⟨%f0, %e0, H0⟩, ⟨%f1, %e1, H1⟩, ⟨%d, %f, -, H⟩, Hk⟩
  obtain rfl := h1.eq_unread e0
  obtain rfl := h2.eq_unread e1
  sl_exec (disch := first | sl_exact hc1 | sl_exact hc2 | sl_exact hc3)
  sl_step
  iapply Hk
  isplitl [H0]
  · iexists _; isplitr; · ipureintro; exact h1.read_unread _
    iexact H0
  isplitl [H1]
  · iexists _; isplitr; · ipureintro; exact h2.read_unread _
    iexact H1
  iexists _
  isplitr
  swap; · iexact H
  ipureintro
  refine read_three _ _ _ _ _ _ _ _ _ (fun y => ?_) (fun y => ?_) (fun y => ?_)
  · exact partly_tile arg1 h1 arg2 h2 x0 x1 0 (by omega) _ _ _ _ _ _ _ y
  · exact partly_tile arg1 h1 arg2 h2 x0 x1 1 (by omega) _ _ _ _ _ _ _ y
  · exact partly_tile arg1 h1 arg2 h2 x0 x1 2 (by omega) _ _ _ _ _ _ _ y

end Points

end Cert.Rotation
-- ==== Proof.Image.lean ====
/- The image the kernel leaves, written over whole arrays, and each grid point's blocks as parts of the arrays. -/
module

public import proofs.«01_k».proof.Proof.Blocks
public import Idealize.ShloMosaic.Lib.Pipeline.ValueKit

@[expose] public section

set_option maxRecDepth 16384

noncomputable section

namespace Cert.Rotation

open Idealize.ShloMosaic Idealize.ShloMosaic.TcCoe Idealize.SL Idealize.SL.Sem
open Cert.KernelIdeal Cert.KernelIdeal.Gen

variable {F : FTy → Type} [FloatOps F]

/-- The number of the voxel at `(a, b, d)` in the order of the image. -/
def number (a b d : Fin 128) : Nat := a * 16384 + b * 128 + d

/-- The image: a voxel numbered below 1000000 is its matrix (column `number` of `a1`) times its three channels, any other
    is `a0`'s. -/
def image (a0 : S1x3x128x128x128.Idx → F .f32) (a1 : S3x3x1000000.Idx → F .f32) (i : S1x3x128x128x128.Idx) : F .f32 :=
  if h : number (i 2) (i 3) (i 4) < 1000000 then
    let term (k : Fin 3) : F .f32 :=
      FloatOps.mulf (a1 (ix3 (i 1) k ⟨number (i 2) (i 3) (i 4), h⟩)) (a0 (ix5 0 k (i 2) (i 3) (i 4)))
    FloatOps.addf (FloatOps.addf (term 0) (term 1)) (term 2)
  else a0 i

/-- Where the entry `y` of grid point `t`'s block of the image lies in the image. -/
def lies (t : Fin cfg0.N) (y : S1x3x16x128x128.Idx) : S1x3x128x128x128.Idx :=
  ix5 0 (y 1) ⟨t.val * 16 + (y 2).val, by
    have ht : t.val < 8 := t.isLt
    have hy : (y 2).val < 16 := (y 2).isLt
    omega⟩ (y 3) (y 4)

/-! ## The blocks' positions -/

/-- Grid point `t` reads block `t` of the image. -/
theorem index_image : ∀ t : Fin cfg0.N, win0_0.index t = ![0, 0, t.val, 0, 0] :=
  (by decide +kernel : ∀ t : Fin grid0.N, win0_0.index t = ![0, 0, t.val, 0, 0])

/-- Grid point `t` reads block `t` of the matrices, and block 3 from point 3 on. -/
theorem index_rows : ∀ t : Fin cfg0.N, win0_1.index t = ![0, 0, min t.val 3] :=
  (by decide +kernel : ∀ t : Fin grid0.N, win0_1.index t = ![0, 0, min t.val 3])

/-- Grid point `t` writes block `t` of the result. -/
theorem index_result : ∀ t : Fin cfg0.N, win0_2.index t = ![0, 0, t.val, 0, 0] :=
  (by decide +kernel : ∀ t : Fin grid0.N, win0_2.index t = ![0, 0, t.val, 0, 0])

/-- The part of grid point `t`'s block of the matrices that lies within them: all of it, or what is left in block 3. -/
theorem moved_rows : ∀ t : Fin cfg0.N, win0_1.xsize (grid0.coords t) = ![3, 3, min 262144 (1000000 - min t.val 3 * 262144)] :=
  (by decide +kernel : ∀ t : Fin grid0.N, win0_1.xsize (grid0.coords t) = ![3, 3, min 262144 (1000000 - min t.val 3 * 262144)])

variable (m : (ℓ : Loc nD τ sig) → Buf (Elt F) ℓ)

/-- The image block at point `t`, entry by entry. -/
theorem image_block (c : Dev nD) (t : Fin cfg0.N) (y : S1x3x16x128x128.Idx) :
    iblk m c 0 t y = V m c main_arg0 (lies t y) := by
  have e := index_image t
  unfold lies
  blk_ext [iblk, e]

/-- Whatever lies past the end of the coefficients, the entries of point `t`'s block that are coefficients. -/
theorem rows_block (c : Dev nD) (t : Fin cfg0.N) (d : S3x3x262144.Idx → Elt F .f32) (a k : Fin 3) (q : Fin 262144)
    (ht : t.val ≤ 3) (h : t.val * 262144 + q.val < 1000000) :
    win0_1.fill (grid0.coords t) d (iblk m c 1 t) (ix3 a k q) = V m c main_v0 (ix3 a k ⟨t.val * 262144 + q.val, h⟩) := by
  have e := index_rows t
  have hm : win0_1.moved (grid0.coords t) (ix3 a k q) = true := by
    rw [Pipeline.Window.moved_iff]
    rw [moved_rows t]
    intro x
    match x with
    | ⟨0, _⟩ => exact a.isLt
    | ⟨1, _⟩ => exact k.isLt
    | ⟨2, _⟩ => show q.val < min 262144 (1000000 - min t.val 3 * 262144); omega
  unfold Pipeline.Window.fill
  rw [dif_pos hm]
  blk_ext [iblk, e]

end Cert.Rotation
-- ==== Proof.Points.lean ====
/- Each branch's block is the part of the image that grid point writes, whatever lies past the coefficients' end. -/
module

public import proofs.«01_k».proof.Proof.Image

@[expose] public section

set_option maxRecDepth 16384

noncomputable section

namespace Cert.Rotation

open Idealize.ShloMosaic Idealize.ShloMosaic.TcCoe Idealize.SL Idealize.SL.Sem
open Cert.KernelIdeal Cert.KernelIdeal.Gen

variable {F : FTy → Type} [FloatOps F]
variable (m : (ℓ : Loc nD τ sig) → Buf (Elt F) ℓ)

/-- The part of the image that point `t` writes. -/
def part (c : Dev nD) (t : Fin cfg0.N) (y : S1x3x16x128x128.Idx) : Elt F .f32 :=
  image (V m c main_arg0) (V m c main_v0) (lies t y)

/-- A voxel's number is its position in the block past the blocks before. -/
theorem number_lies (t : Fin cfg0.N) (y : S1x3x16x128x128.Idx) :
    number (lies t y 2) (lies t y 3) (lies t y 4) = t.val * 262144 + (place (y 2) (y 3) (y 4)).val := by
  show (t.val * 16 + (y 2).val) * 16384 + (y 3).val * 128 + (y 4).val =
    t.val * 262144 + ((y 2).val * 16384 + (y 3).val * 128 + (y 4).val)
  omega

/-- The rotated value at an entry whose voxel is numbered below 1000000 is the image's. -/
theorem turned_eq_part (c : Dev nD) (t : Fin cfg0.N) (d : S3x3x262144.Idx → Elt F .f32) (y : S1x3x16x128x128.Idx)
    (ht : t.val ≤ 3) (h : t.val * 262144 + (place (y 2) (y 3) (y 4)).val < 1000000) :
    turned (iblk m c 0 t) (win0_1.fill (grid0.coords t) d (iblk m c 1 t)) y = part m c t y := by
  have hn := number_lies t y
  have hk : number (lies t y 2) (lies t y 3) (lies t y 4) < 1000000 := hn ▸ h
  have hr (k : Fin 3) : win0_1.fill (grid0.coords t) d (iblk m c 1 t) (ix3 (y 1) k (place (y 2) (y 3) (y 4))) =
      V m c main_v0 (ix3 (lies t y 1) k ⟨number (lies t y 2) (lies t y 3) (lies t y 4), hk⟩) := by
    refine (rows_block m c t d (y 1) k (place (y 2) (y 3) (y 4)) ht h).trans ?_
    exact congrArg (fun p => V m c main_v0 (ix3 (y 1) k p)) (Fin.ext hn.symm)
  have hs (k : Fin 3) : iblk m c 0 t (ix5 0 k (y 2) (y 3) (y 4)) =
      V m c main_arg0 (ix5 0 k (lies t y 2) (lies t y 3) (lies t y 4)) :=
    image_block m c t (ix5 0 k (y 2) (y 3) (y 4))
  unfold part image
  rw [dif_pos hk]
  have hp (k : Fin 3) := congrArg₂ FloatOps.mulf (hr k) (hs k)
  exact congrArg₂ FloatOps.addf (congrArg₂ FloatOps.addf (hp 0) (hp 1)) (hp 2)

/-- The block's own value at an entry whose voxel is numbered 1000000 or more is the image's. -/
theorem kept_eq_part (c : Dev nD) (t : Fin cfg0.N) (y : S1x3x16x128x128.Idx)
    (h : ¬ t.val * 262144 + (place (y 2) (y 3) (y 4)).val < 1000000) : iblk m c 0 t y = part m c t y := by
  have hn := number_lies t y
  unfold part image
  rw [dif_neg (hn ▸ h)]
  exact image_block m c t y

/-- Points 0, 1 and 2. -/
theorem turned_part (c : Dev nD) (t : Fin cfg0.N) (ht : t.val < 3) (d : S3x3x262144.Idx → Elt F .f32) :
    turned (iblk m c 0 t) (win0_1.fill (grid0.coords t) d (iblk m c 1 t)) = part m c t := by
  funext y
  have hp := (place (y 2) (y 3) (y 4)).isLt
  exact turned_eq_part m c t d y (by omega) (by omega)

/-- Point 3. -/
theorem partly_part (c : Dev nD) (t : Fin cfg0.N) (ht : t.val = 3) (d : S3x3x262144.Idx → Elt F .f32) :
    partly (iblk m c 0 t) (win0_1.fill (grid0.coords t) d (iblk m c 1 t)) = part m c t := by
  funext y
  unfold partly
  by_cases h : (place (y 2) (y 3) (y 4) : Nat) < 213568
  · rw [if_pos h]
    exact turned_eq_part m c t d y (by omega) (by omega)
  · rw [if_neg h]
    exact kept_eq_part m c t y (by omega)

/-- Points 4 to 7. -/
theorem kept_part (c : Dev nD) (t : Fin cfg0.N) (ht : 3 < t.val) : iblk m c 0 t = part m c t :=
  funext fun y => kept_eq_part m c t y (by omega)

end Cert.Rotation
-- ==== Proof.Region.lean ====
/- The kernel's run: every point leaves its part of the image, so the result array ends as the image, the arguments as
   they were and every counter at zero. -/
module

public import proofs.«01_k».proof.Proof.Body
public import proofs.«01_k».proof.Proof.Points

@[expose] public section

set_option maxRecDepth 16384

noncomputable section

namespace Cert.Rotation

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The contents the three windows' buffers have after each point: the two inputs their blocks, the result its part of
    the image. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => win0_1.fill (grid0.coords t) (fun _ => FloatOps.ofBits .f32 0#32) (iblk m c 1 t)
    | ⟨2, _⟩ => part m c t
  Φ _ := Pipeline.ΦA spec0 c
  q _ := fullShare
  owed _ := 0

/-! ## What the body finds -/

/-- The image's buffer holds the point's block. -/
theorem finds_image (c : Dev nD) (t : Fin cfg0.N) (d) : (dats m 0 c).before 0 t d = iblk m c 0 t :=
  before0_0_of m (dats m 0 c) rfl (fun _ => rfl) t d

/-- The coefficients' buffer holds the point's block, and past their end anything. -/
theorem finds_rows (c : Dev nD) (t : Fin cfg0.N) (d) :
    (dats m 0 c).before 1 t d = win0_1.fill (grid0.coords t) d (iblk m c 1 t) :=
  (dats m 0 c).before_in_eq_fetched 1 rfl (fun _ => rfl)
    (fun t t' h => by
      change win0_1.indexMap (grid0.coords t) = win0_1.indexMap (grid0.coords t') at h
      funext a
      exact congrArg (fun f : Fin 3 → Nat => Pipeline.Clip.of (f a) (S3x3x262144.size a) (S3x3x1000000.size a)) h)
    (fun t => win0_1.cut_fill (grid0.coords t) _ (iblk m c 1 t)) t d

/-! ## The branch each point takes -/

/-- The body's first branch is taken at points 0, 1 and 2. -/
theorem cond1_iff : ∀ t : Fin cfg0.N, k0_cond1 (grid0.coords t) = 1#1 ↔ t.val < 3 :=
  (by decide +kernel : ∀ t : Fin grid0.N, k0_cond1 (grid0.coords t) = 1#1 ↔ t.val < 3)

/-- The body's second branch is taken at point 3. -/
theorem cond2_iff : ∀ t : Fin cfg0.N, k0_cond2 (grid0.coords t) = 1#1 ↔ t.val = 3 :=
  (by decide +kernel : ∀ t : Fin grid0.N, k0_cond2 (grid0.coords t) = 1#1 ↔ t.val = 3)

/-- The body's third branch is taken at points 4 to 7. -/
theorem cond3_iff : ∀ t : Fin cfg0.N, k0_cond3 (grid0.coords t) = 1#1 ↔ 3 < t.val :=
  (by decide +kernel : ∀ t : Fin grid0.N, k0_cond3 (grid0.coords t) = 1#1 ↔ 3 < t.val)

/-- Every grid point writes its block of the result. -/
theorem result_live : ∀ t : Fin cfg0.N, idle0 2 (grid0.coords t) = false :=
  (by decide +kernel : ∀ t : Fin grid0.N, idle0 2 (grid0.coords t) = false)

/-- At every point the body leaves the point's part of the image, whatever lies past the coefficients' end. -/
theorem leaves_part (c : Dev nD) (t : Fin cfg0.N) (d : S3x3x262144.Idx → Elt F .f32)
    (arg1 : Memref sig .tc .vmem S1x3x16x128x128 .f32) (h1 : arg1.IsWhole)
    (arg2 : Memref sig .tc .vmem S3x3x262144 .f32) (h2 : arg2.IsWhole)
    (arg3 : Memref sig .tc .vmem S1x3x16x128x128 .f32) (h3 : arg3.IsWhole) :
    Leaves c (grid0.coords t) arg1 h1 arg2 h2 arg3 h3 (iblk m c 0 t) (win0_1.fill (grid0.coords t) d (iblk m c 1 t))
      (part m c t) := by
  have e1 := cond1_iff t
  have e2 := cond2_iff t
  have e3 := cond3_iff t
  rcases Nat.lt_trichotomy t.val 3 with h | h | h
  · rw [← turned_part m c t h d]
    exact turns c _ arg1 h1 arg2 h2 arg3 h3 _ _ (e1.mpr h) (fun x => by have := e2.mp x; omega) (fun x => by have := e3.mp x; omega)
  · rw [← partly_part m c t h d]
    exact divides c _ arg1 h1 arg2 h2 arg3 h3 _ _ (fun x => by have := e1.mp x; omega) (e2.mpr h) (fun x => by have := e3.mp x; omega)
  · rw [← kept_part m c t h]
    exact keeps c _ arg1 h1 arg2 h2 arg3 h3 _ _ (fun x => by have := e1.mp x; omega) (fun x => by have := e2.mp x; omega) (e3.mpr h)

/-! ## The body's obligation -/

/-- What the body is called with at a point. -/
def found (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- What it hands back. -/
def handed (c : Dev nD) (t : Fin cfg0.N) : sProp 𝕄 :=
  iprop((dats m 0 c).Φ t.succ ∗ (dats m 0 c).owesAt () t.succ
    ∗ owns (c : Thread nD τ) (st0_0 t) fullShare (iblk m c 0 t)
    ∗ (∃ d, owns (c : Thread nD τ) (st0_1 t) fullShare (win0_1.fill (grid0.coords t) d (iblk m c 1 t)))
    ∗ owns (c : Thread nD τ) (st0_2 t) fullShare (part m c t))

/-- The body at any point turns the one into the other. -/
theorem body_ok (c : Dev nD) (t : Fin cfg0.N) :
    found m c t ⊢ wp frame (wpE (defs₀ (F := F)) Variants.none c none) Set.univ (bodyAt0 t) (fun _ => handed m c t) := by
  unfold found handed bodyAt0
  simp only [finds_image, finds_rows]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  iapply (leaves_part m c t d1 _ _ _ _ _ _ Set.univ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexists _; iexact H1
  iexact H2

/-- The obligation the pipeline asks of the body. -/
theorem body_obligation (c : Dev nD) : BodyObligationLoose (dats (F := F) m 0 c) (defs₀ (F := F)) Variants.none () Set.univ := fun t => by
  rw [bigSep_W0, bigSep_W0]
  refine triple_restated (body_ok m c t) rfl .rfl fun _ => ?_
  unfold handed
  have e : cfg0.idle 2 (cfg0.grid.coords t) = false := result_live t
  rw [e]
  have k : win0_1.cut (grid0.coords t) ((dats m 0 c).after 1 t) = iblk m c 1 t := win0_1.cut_fill _ _ _
  iintro ⟨HΦ, Ho, H0, ⟨%d, H1⟩, H2⟩
  isplitl [HΦ]; · iexact HΦ
  isplitl [Ho]; · iexact Ho
  isplitl [H0]; · iexact H0
  isplitl [H1]
  · iexists d
    rw [← k]
    iexact H1
  iexact H2

/-! ## The result array and the run -/

/-- After the last point the result array is the image. -/
theorem result_image (c : Dev nD) :
    (dats m 0 c).arrAt 2 cfg0.N = image (V m c main_arg0) (V m c main_v0) := by
  refine (dats m 0 c).arrAt_eq_of_covers 2 _ (by decide +kernel) fun t _ y => ?_
  have e := index_result t
  show image (V m c main_arg0) (V m c main_v0) (lies t y) = _
  unfold lies
  blk_ext [e]

set_option backward.isDefEq.respectTransparency.types false in
/-- Every execution ends with the result array at the image of the source and the coefficients as the region found them,
    the arguments as launched, and every counter at zero. -/
theorem run : θ_run defs (onTc (τ := τ) (main (F := F))) ⟨m, fun _ => 0, ρ⟩ (fun r => (∀ c : Dev nD,
      r.2.mem ((c.tc : Thread nD τ).loc main_v1) = image (m ((c.tc : Thread nD τ).loc main_arg0)) (V m c main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_frame (Q' := _) cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := fun _ _ => rfl) (hΦ := fun _ _ => rfl)
    (hQ' := fun _ h => ⟨fun c =>
      ⟨((h.1 c).1 2).trans ((result_image m c).trans (by rw [V_main_arg0])),
        ((h.1 c).1 0).trans (((dats m 0 c).arrAt_in 0 rfl _).trans (V_main_arg0 m c)),
        ((h.1 c).2 main_arg1 (Pipeline.mem_restRefs_of main_arg1 (by decide) (by decide))).trans (V_main_arg1 m c),
        ((h.1 c).2 main_arg2 (Pipeline.mem_restRefs_of main_arg2 (by decide) (by decide))).trans (V_main_arg2 m c)⟩, h.2⟩)

end Cert.Rotation
-- ==== Proof.Frames.lean ====
/- The kernel read at the machine's own floats, and the reference, run to an end, leave their arguments as they were and
   every counter at zero. -/
module

public import proofs.«01_k».proof.Proof.Region
public import proofs.«01_k».proof.Proof.Gen.Kernel.Frame
public import proofs.«01_k».proof.Proof.Gen.ReferenceIdeal.Run
public import Idealize.ShloMosaic.Lib.Quiescent

@[expose] public section

set_option maxRecDepth 16384

noncomputable section

namespace Cert.Rotation

open Idealize.ShloMosaic Idealize.ShloMosaic.TcCoe
open Idealize.SL Idealize.SL.Sem

variable {F : FTy → Type} [FloatOps F]

/-- The kernel and its exact reading have one host program. -/
theorem main_same : (Cert.Kernel.main (F := F)) = Cert.KernelIdeal.main (F := F) := by rfl

/-- The kernel and its exact reading have one body. -/
theorem body_same : (Cert.Kernel.defs₀ (F := F)) = Cert.KernelIdeal.defs₀ (F := F) := by
  unfold Cert.Kernel.defs₀ Cert.KernelIdeal.defs₀
  congr 1
  funext ℓ x
  match ℓ, x with
  | ⟨0, _⟩, (t, s) => rfl
  | ⟨_ + 1, h⟩, _ => exact absurd h (Nat.not_lt.2 (Nat.le_add_left _ _))

/-- The kernel and its exact reading have one table of bodies. -/
theorem defs_same : (Cert.Kernel.defs (F := F)) = Cert.KernelIdeal.defs (F := F) :=
  congrArg (Pipeline.defs _) body_same

/-- The exact reading ends with its arguments unchanged and every counter at zero. -/
theorem exact_frame (m : (ℓ : Loc Cert.KernelIdeal.nD Cert.KernelIdeal.τ Cert.KernelIdeal.sig) → Buf (Elt F) ℓ)
    (g : Dev Cert.KernelIdeal.nD → PrngReg) :
    θ_run Cert.KernelIdeal.defs (onTc (τ := Cert.KernelIdeal.τ) (Cert.KernelIdeal.main (F := F))) ⟨m, fun _ => 0, g⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run _ _ _).mono (fun _ h => ⟨fun c => (h.1 c).2, h.2⟩) (run m g)

/-- The kernel ends with its arguments unchanged and every counter at zero. -/
theorem kernel_frame (m : (ℓ : Loc Cert.Kernel.nD Cert.Kernel.τ Cert.Kernel.sig) → Buf (Elt F) ℓ)
    (g : Dev Cert.Kernel.nD → PrngReg) :
    θ_run Cert.Kernel.defs (onTc (τ := Cert.Kernel.τ) (Cert.Kernel.main (F := F))) ⟨m, fun _ => 0, g⟩ (fun r =>
      (∀ c : Dev Cert.Kernel.nD,
        r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1)
        ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0) := by
  rw [defs_same, main_same]
  exact exact_frame m g

/-- The reference ends with its arguments unchanged and every counter at zero: it has no counter to move. -/
theorem reference_frame (m : (ℓ : Loc Cert.ReferenceIdeal.nD Cert.ReferenceIdeal.τ Cert.ReferenceIdeal.sig) → Buf (Elt F) ℓ)
    (g : Dev Cert.ReferenceIdeal.nD → PrngReg) :
    θ_run Cert.ReferenceIdeal.defs (onTc (τ := Cert.ReferenceIdeal.τ) (Cert.ReferenceIdeal.main (F := F))) ⟨m, fun _ => 0, g⟩ (fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run _ _ _).mono (fun r h => ⟨fun c => (h c).2, sem_eq_zero_of_no_sems rfl r.2⟩) (Cert.ReferenceIdeal.Value.run m g)

end Cert.Rotation

end
-- ==== Proof.Reference.lean ====
/- The reference at an index: where the index list counts up from nought, voxel number `p` below a million ends as row
   `p` of the rotations times the voxel's vector, and every later voxel ends as it was. -/
module

public import proofs.«01_k».proof.Proof.Image
public import proofs.«01_k».proof.Proof.Gen.ReferenceIdeal
public import proofs.«01_k».proof.Proof.Gen.Pre_in_order
public import Idealize.ShloMosaic.Lib.Pipeline.Value
public import Idealize.ShloMosaic.Lib.ReduceAll
public import Idealize.ShloMosaic.Lib.StableHlo.Predicate
public import Idealize.ShloMosaic.Lib.Routing.OpsSet
public import Idealize.ShloMosaic.Lib.Routing.OpsPair
public import Idealize.ShloMosaic.Lib.ValueIdxCore
public import Idealize.ShloMosaic.Lib.WordCmp

@[expose] public section

set_option maxRecDepth 16384

noncomputable section

namespace Cert.Rotation

open Idealize.ShloMosaic
open Cert.ReferenceIdeal Cert.ReferenceIdeal.Facts₀

/-- The index list counts up from nought. -/
def Ordered (a2 : IVec S1x1000000 32) : Prop := ∀ p : Fin 1000000, a2 (ix2 0 p) = BitVec.ofNat 32 p.val

/-- The precondition's predicate, where it holds, says that the index list counts up from nought. -/
theorem ordered_of {F : FTy → Type} [FloatOps F] (a0 : FVec F S1x3x128x128x128 .f32) (a1 : FVec F S1000000x3x3 .f32)
    (a2 : IVec S1x1000000 32) (h : Cert.Pre_in_order.fn a0 a1 a2 = fun _ => 1#1) : Ordered a2 := by
  intro p
  have e := congrFun h ix0
  haveI : Subsingleton (Cert.Pre_in_order.S_).Idx := ⟨fun x y => funext fun a => a.elim0⟩
  have q := Host.reduce_andi_all _ _ _ _ _ e (ix2 0 p)
  exact StableHlo.Predicate.cmpi_eq_iff.1 q

/-- The image as one row of three channels per voxel. -/
def rows {α : Type} (a0 : S1x3x128x128x128.Idx → α) : S2097152x3x1.Idx → α :=
  transpose S2097152x3x1 [1, 0, 2]
    (shapeCast _ (shapeCast _ a0 shapeCasts_S1x3x128x128x128_S3x128x128x128) shapeCasts_S3x128x128x128_S3x2097152x1)
    transposes_S3x2097152x1_S2097152x3x1_1_0_2

/-- The rows put back as an image. -/
def unrows {α : Type} (x : S2097152x3x1.Idx → α) : S1x3x128x128x128.Idx → α :=
  transpose S1x3x128x128x128 [4, 3, 0, 1, 2] (shapeCast _ x shapeCasts_S2097152x3x1_S128x128x128x3x1)
    transposes_S128x128x128x3x1_S1x3x128x128x128_4_3_0_1_2

/-- A voxel's number is below the count of voxels. -/
theorem number_lt (a b d : Fin 128) : number a b d < 2097152 := by
  unfold number; omega

/-- Row `number a b d` of the rows holds the voxel at `(a, b, d)`. -/
theorem rows_at {α : Type} (a0 : S1x3x128x128x128.Idx → α) (a b d : Fin 128) (c : Fin 3) (z : Fin 1) :
    rows a0 (ix3 ⟨number a b d, number_lt a b d⟩ c z) = a0 (ix5 0 c a b d) := by
  obtain rfl : z = 0 := Subsingleton.elim _ _
  unfold rows
  rw [transpose_apply _ _ _ _ (ix3 c ⟨number a b d, number_lt a b d⟩ 0) (by
    intro k
    match k with
    | ⟨0, _⟩ => rfl
    | ⟨1, _⟩ => rfl
    | ⟨2, _⟩ => rfl)]
  rw [shapeCast_apply _ _ _ (ix4 c a b d) (by
    rw [Shape.rowMajor_val_four, Shape.rowMajor_val_three]
    show ((c.val * 128 + a.val) * 128 + b.val) * 128 + d.val = (c.val * 2097152 + number a b d) * 1 + 0
    unfold number; omega)]
  rw [shapeCast_apply _ _ _ (ix5 0 c a b d) (by
    rw [Shape.rowMajor_val_four, Shape.rowMajor_val_five]
    show (((0 * 3 + c.val) * 128 + a.val) * 128 + b.val) * 128 + d.val = ((c.val * 128 + a.val) * 128 + b.val) * 128 + d.val
    omega)]

/-- The image put back from rows holds at `(a, b, d)` row `number a b d`. -/
theorem unrows_at {α : Type} (x : S2097152x3x1.Idx → α) (c : Fin 3) (a b d : Fin 128) :
    unrows x (ix5 0 c a b d) = x (ix3 ⟨number a b d, number_lt a b d⟩ c 0) := by
  unfold unrows
  rw [transpose_apply _ _ _ _ (ix5 a b d c 0) (by
    intro k
    match k with
    | ⟨0, _⟩ => rfl
    | ⟨1, _⟩ => rfl
    | ⟨2, _⟩ => rfl
    | ⟨3, _⟩ => rfl
    | ⟨4, _⟩ => rfl)]
  rw [shapeCast_apply _ _ _ (ix3 ⟨number a b d, number_lt a b d⟩ c 0) (by
    rw [Shape.rowMajor_val_three, Shape.rowMajor_val_five]
    show (number a b d * 3 + c.val) * 1 + 0 = (((a.val * 128 + b.val) * 128 + d.val) * 3 + c.val) * 1 + 0
    unfold number; omega)]

/-- The index list as the reference reads it: as a column, a negative index counted from the end. -/
def marks (a2 : IVec S1x1000000 32) : IVec S1000000x1 32 :=
  broadcastInDim S1000000x1 ![0] bcast_S1000000_S1000000x1_0
    (select (cmpi .slt (shapeCast _ a2 shapeCasts_S1x1000000_S1000000) (broadcastInDim S1000000 ![] bcast_S_S1000000 (constantI S_ 32 0#32)))
      (addi (shapeCast _ a2 shapeCasts_S1x1000000_S1000000) (broadcastInDim S1000000 ![] bcast_S_S1000000 (constantI S_ 32 2097152#32)))
      (shapeCast _ a2 shapeCasts_S1x1000000_S1000000))

/-- Entry `p` of the index list as the reference reads it is `p`. -/
theorem marks_at (a2 : IVec S1x1000000 32) (h : Ordered a2) (p : Fin 1000000) (z : Fin 1) :
    marks a2 (ix2 p z) = BitVec.ofNat 32 p.val := by
  have e : shapeCast S1000000 a2 shapeCasts_S1x1000000_S1000000 (ix1 p) = BitVec.ofNat 32 p.val := by
    rw [shapeCast_apply _ _ _ (ix2 0 p) (by
      rw [Shape.rowMajor_val_two, Shape.rowMajor_val_one]
      show 0 * 1000000 + p.val = p.val
      omega), h p]
  unfold marks
  rw [broadcastInDim_apply _ _ _ _ (ix1 p) (by
    intro a
    match a with
    | ⟨0, _⟩ => rfl)]
  show Scalar.select (IntOp.cmpi .slt (shapeCast S1000000 a2 shapeCasts_S1x1000000_S1000000 (ix1 p)) 0#32) _
    (shapeCast S1000000 a2 shapeCasts_S1x1000000_S1000000 (ix1 p)) = _
  rw [e]
  refine Routing.wrap_of_lt _ _ ?_
  rw [BitVec.toNat_ofNat]
  have := p.isLt
  show p.val % 4294967296 < 2147483648
  omega

/-- A word below two to the thirty-first, read as signed, is itself. -/
theorem word_signed (p : Fin 1000000) : (BitVec.ofNat 32 p.val).toInt = (p.val : Int) := by
  have := p.isLt
  rw [BitVec.toInt_eq_toNat_cond, BitVec.toNat_ofNat, Nat.mod_eq_of_lt (by omega), if_pos (by omega)]

/-- Whether the reference finds each entry of the index list within the image. -/
def within (a2 : IVec S1x1000000 32) : IVec S1000000 1 :=
  Host.reduce IntOp.andi
    (andi (cmpi .sge (marks a2) (broadcastInDim S1000000x1 ![] bcast_S_S1000000x1 (constantI S_ 32 0#32)))
      (cmpi .sle (marks a2) (broadcastInDim S1000000x1 ![0, 1] bcast_S1x1_S1000000x1_0_1 (broadcastInDim S1x1 ![1] bcast_S1_S1x1_1 (constantI S1 32 2097151#32)))))
    (constantI S_ 1 1#1) reducesTo_S1000000x1_S1000000_d1 h_S_

/-- Every entry is within the image. -/
theorem within_at (a2 : IVec S1x1000000 32) (h : Ordered a2) (j : S1000000.Idx) : within a2 j = 1#1 := by
  refine Host.reduce_andi_one _ _ _ _ _ rfl fun i => ?_
  rw [← ix2_eta i]
  have e := marks_at a2 h (i 0) (i 1)
  have hp : (i 0).val < 1000000 := (i 0).isLt
  show IntOp.andi (IntOp.cmpi .sge (marks a2 (ix2 (i 0) (i 1))) 0#32) (IntOp.cmpi .sle (marks a2 (ix2 (i 0) (i 1))) 2097151#32) = 1#1
  rw [e, WordCmp.cmpi_sge_ofNat (by show _ < 2147483648; omega) (by decide),
    WordCmp.cmpi_sle_ofNat (by show _ < 2147483648; omega) (by decide)]
  rw [decide_eq_true (by omega), decide_eq_true (by omega)]
  rfl

/-- The vectors the reference takes from the rows, one per entry of the index list. -/
def taken {F : FTy → Type} [FloatOps F] (x : FVec F S2097152x3x1 .f32) (a2 : IVec S1x1000000 32) (other : FVec F S1000000x3x1 .f32) :
    FVec F S1000000x3x1 .f32 :=
  select (broadcastInDim S1000000x3x1 ![0] bcast_S1000000_S1000000x3x1_0 (within a2))
    (Host.gather gather_S2097152x3x1_S1000000x1_S1000000x3x1_12_0_n_n_0_1_131 x (marks a2)) other

/-- The vector taken for entry `p` is row `p`. -/
theorem taken_at {F : FTy → Type} [FloatOps F] (x : FVec F S2097152x3x1 .f32) (a2 : IVec S1x1000000 32) (other : FVec F S1000000x3x1 .f32)
    (h : Ordered a2) (p : Fin 1000000) (k : Fin 3) (z : Fin 1) :
    taken x a2 other (ix3 p k z) = x (ix3 ⟨p.val, by have := p.isLt; omega⟩ k z) := by
  have hp := p.isLt
  have hs : (gather_S2097152x3x1_S1000000x1_S1000000x3x1_12_0_n_n_0_1_131).siIdx (ix3 p k z) ⟨0, by decide⟩ = ix2 p 0 := by
    funext b
    match b with
    | ⟨0, _⟩ => rfl
    | ⟨1, _⟩ => rfl
  have h0 : (gather_S2097152x3x1_S1000000x1_S1000000x3x1_12_0_n_n_0_1_131).start (ix3 p k z) (marks a2) 0 = p.val := by
    show min (marks a2 ((gather_S2097152x3x1_S1000000x1_S1000000x3x1_12_0_n_n_0_1_131).siIdx (ix3 p k z) ⟨0, by decide⟩)).toInt.toNat
      (2097152 - 1) = p.val
    rw [hs, marks_at a2 h p 0, word_signed]
    omega
  unfold taken
  show Scalar.select (broadcastInDim S1000000x3x1 ![0] bcast_S1000000_S1000000x3x1_0 (within a2) (ix3 p k z)) _ _ = _
  rw [broadcastInDim_apply _ _ _ _ (ix1 p) (by
    intro a
    match a with
    | ⟨0, _⟩ => rfl), within_at a2 h, WordCmp.select_one]
  unfold Host.gather
  refine congrArg x (funext fun a => Fin.ext ?_)
  match a with
  | ⟨0, _⟩ => exact congrArg (· + 0 + 0) h0
  | ⟨1, _⟩ => exact Nat.zero_add _
  | ⟨2, _⟩ => exact Nat.zero_add _

/-- The matrices times the vectors, entry by entry: three products, added up. -/
theorem product_at (a1 : FVec Ideal S1000000x3x3 .f32) (v : FVec Ideal S1000000x3x1 .f32) (p : Fin 1000000) (c : Fin 3) (z : Fin 1) :
    Host.dotGeneral dot_S1000000x3x3_S1000000x3x1_S1000000x3x1_2_1_1_2_0_0 none a1 v (ix3 p c z)
      = ∑ k : Fin 3, a1 (ix3 p c k) * v (ix3 p k z) := by
  have hr : (dot_S1000000x3x3_S1000000x3x1_S1000000x3x1_2_1_1_2_0_0).contr.rank = 1 := rfl
  have hc : (dot_S1000000x3x3_S1000000x3x1_S1000000x3x1_2_1_1_2_0_0).contr.size ⟨0, by rw [hr]; omega⟩ = 3 := rfl
  simp only [Host.dotGeneral]
  rw [Ideal.dotGeneral_apply, ← Equiv.sum_comp (ValueIdx.contrEquiv1 _ 3 hr hc).symm]
  refine Finset.sum_congr rfl fun k _ => ?_
  have hk := ValueIdx.contrEquiv1_symm_val _ 3 hr hc k
  congr 1
  · refine congrArg a1 (funext fun a => Fin.ext ?_)
    match a with
    | ⟨0, _⟩ => rfl
    | ⟨1, _⟩ => rfl
    | ⟨2, _⟩ => exact hk
  · refine congrArg v (funext fun a => Fin.ext ?_)
    match a with
    | ⟨0, _⟩ => rfl
    | ⟨1, _⟩ => exact hk
    | ⟨2, _⟩ => rfl

/-- Update `(p, c)` of the rows lands at row `p`, channel `c`, and nowhere else. -/
theorem lands_iff (a2 : IVec S1x1000000 32) (h : Ordered a2) (k : S1000000x3x1.Idx) (ι : S2097152x3x1.Idx) :
    (scatter_S2097152x3x1_S1000000x1_S1000000x3x1_12_0_0_1).resultIdx? k (marks a2) = some ι
      ↔ (k 0).val = (ι 0).val ∧ (k 1).val = (ι 1).val ∧ (k 2).val = (ι 2).val := by
  have hs : (scatter_S2097152x3x1_S1000000x1_S1000000x3x1_12_0_0_1).siIdx k ⟨0, by decide⟩ = ix2 (k 0) 0 := by
    funext b
    match b with
    | ⟨0, _⟩ => rfl
    | ⟨1, _⟩ => rfl
  have h0 : (scatter_S2097152x3x1_S1000000x1_S1000000x3x1_12_0_0_1).start k (marks a2) 0
      + ((scatter_S2097152x3x1_S1000000x1_S1000000x3x1_12_0_0_1).window k 0 : Int) = ((k 0).val : Int) := by
    show (marks a2 ((scatter_S2097152x3x1_S1000000x1_S1000000x3x1_12_0_0_1).siIdx k ⟨0, by decide⟩)).toInt + (0 : Int) = _
    exact (Int.add_zero _).trans ((congrArg (fun y => (marks a2 y).toInt) hs).trans
      ((congrArg BitVec.toInt (marks_at a2 h (k 0) 0)).trans (word_signed (k 0))))
  have h1 : (scatter_S2097152x3x1_S1000000x1_S1000000x3x1_12_0_0_1).start k (marks a2) 1
      + ((scatter_S2097152x3x1_S1000000x1_S1000000x3x1_12_0_0_1).window k 1 : Int) = ((k 1).val : Int) := Int.zero_add _
  have h2 : (scatter_S2097152x3x1_S1000000x1_S1000000x3x1_12_0_0_1).start k (marks a2) 2
      + ((scatter_S2097152x3x1_S1000000x1_S1000000x3x1_12_0_0_1).window k 2 : Int) = ((k 2).val : Int) := Int.zero_add _
  rw [Routing.resultIdx?_eq_some]
  constructor
  · intro q
    have q0 := q 0
    have q1 := q 1
    have q2 := q 2
    rw [h0] at q0
    rw [h1] at q1
    rw [h2] at q2
    exact ⟨Int.ofNat_inj.1 q0, Int.ofNat_inj.1 q1, Int.ofNat_inj.1 q2⟩
  · rintro ⟨q0, q1, q2⟩ a
    match a with
    | ⟨0, _⟩ => exact h0.trans (congrArg Int.ofNat q0)
    | ⟨1, _⟩ => exact h1.trans (congrArg Int.ofNat q1)
    | ⟨2, _⟩ => exact h2.trans (congrArg Int.ofNat q2)

/-- The rows after the updates: a row below a million is its update, any other is as it was. -/
theorem written_at {α : Type} (x : S2097152x3x1.Idx → α) (a2 : IVec S1x1000000 32) (u : S1000000x3x1.Idx → α) (h : Ordered a2)
    (p : Fin 2097152) (c : Fin 3) (z : Fin 1) :
    Host.scatter scatter_S2097152x3x1_S1000000x1_S1000000x3x1_12_0_0_1 (fun _ b => b) x (marks a2) u (ix3 p c z)
      = if hp : p.val < 1000000 then u (ix3 ⟨p.val, hp⟩ c z) else x (ix3 p c z) := by
  split
  · next hp =>
    refine Routing.scatter_set_hit _ x (marks a2) u _ _ (fun k hk => ?_) (ix3 ⟨p.val, hp⟩ c z)
      ((lands_iff a2 h _ _).2 ⟨rfl, rfl, rfl⟩)
    obtain ⟨q0, q1, q2⟩ := (lands_iff a2 h _ _).1 hk
    refine congrArg u (funext fun a => Fin.ext ?_)
    match a with
    | ⟨0, _⟩ => exact q0
    | ⟨1, _⟩ => exact q1
    | ⟨2, _⟩ => exact q2
  · next hp =>
    refine Routing.scatter_set_miss _ x (marks a2) u _ fun k hk => hp ?_
    have q := ((lands_iff a2 h _ _).1 hk).1
    have l : (k 0).val < 1000000 := (k 0).isLt
    change (k 0).val = p.val at q
    omega

/-- The reference's result as a function of its three arguments. -/
def rebuilt (a0 : FVec Ideal S1x3x128x128x128 .f32) (a1 : FVec Ideal S1000000x3x3 .f32) (a2 : IVec S1x1000000 32)
    (other : FVec Ideal S1000000x3x1 .f32) : FVec Ideal S1x3x128x128x128 .f32 :=
  unrows (Host.scatter scatter_S2097152x3x1_S1000000x1_S1000000x3x1_12_0_0_1 (fun _ b => b) (rows a0) (marks a2)
    (Host.dotGeneral dot_S1000000x3x3_S1000000x3x1_S1000000x3x1_2_1_1_2_0_0 none a1 (taken (rows a0) a2 other)))

/-- Where the index list counts up from nought, the reference's result is the image of its arguments, the matrices read
    with their number last. -/
theorem rebuilt_eq (a0 : FVec Ideal S1x3x128x128x128 .f32) (a1 : FVec Ideal S1000000x3x3 .f32) (a2 : IVec S1x1000000 32)
    (other : FVec Ideal S1000000x3x1 .f32) (h : Ordered a2) (r : Cert.KernelIdeal.S3x3x1000000.Idx → Ideal .f32)
    (hr : ∀ (c k : Fin 3) (p : Fin 1000000), r (ix3 c k p) = a1 (ix3 p c k)) :
    rebuilt a0 a1 a2 other = image (F := Ideal) a0 r := by
  funext i
  obtain ⟨c, a, b, d, rfl⟩ : ∃ (c : Fin 3) (a b d : Fin 128), i = ix5 0 c a b d := by
    refine ⟨i 1, i 2, i 3, i 4, (ix5_eta i).symm.trans ?_⟩
    have e0 : @Eq (Fin 1) (i 0) 0 := Subsingleton.elim _ _
    exact congrArg (fun y : Fin 1 => (ix5 y (i 1) (i 2) (i 3) (i 4) : S1x3x128x128x128.Idx)) e0
  have hi : image (F := Ideal) a0 r (ix5 0 c a b d) = if hp : number a b d < 1000000 then
      r (ix3 c 0 ⟨number a b d, hp⟩) * a0 (ix5 0 0 a b d) + r (ix3 c 1 ⟨number a b d, hp⟩) * a0 (ix5 0 1 a b d)
        + r (ix3 c 2 ⟨number a b d, hp⟩) * a0 (ix5 0 2 a b d)
    else a0 (ix5 0 c a b d) := rfl
  unfold rebuilt
  rw [hi, unrows_at, written_at _ _ _ h]
  by_cases hp : number a b d < 1000000
  · rw [dif_pos hp, dif_pos hp, product_at, Fin.sum_univ_three]
    simp only [taken_at _ _ _ h, hr, rows_at]
  · rw [dif_neg hp, dif_neg hp, rows_at]

end Cert.Rotation

end
-- ==== Proof.Agree.lean ====
/- The kernel and the reference end with one result, where the index list counts up from nought. -/
module

public import proofs.«01_k».proof.Defs
public import proofs.«01_k».proof.Proof.Region
public import proofs.«01_k».proof.Proof.Reference
public import proofs.«01_k».proof.Proof.Gen.ReferenceIdeal.Run

@[expose] public section

set_option maxRecDepth 16384

noncomputable section

namespace Cert.Rotation

open Idealize.ShloMosaic Idealize.ShloMosaic.TcCoe Idealize.ShloMosaic.StableHlo
open Idealize.SL Idealize.SL.Sem

/-- The matrices as the kernel finds them: their number is the last coordinate. -/
theorem matrices {F : FTy → Type} [FloatOps F]
    (m : (ℓ : Loc Cert.KernelIdeal.nD Cert.KernelIdeal.τ Cert.KernelIdeal.sig) → Buf (Elt F) ℓ) (d : Dev Cert.KernelIdeal.nD)
    (c k : Fin 3) (p : Fin 1000000) :
    (Cert.KernelIdeal.Gen.V m d Cert.KernelIdeal.main_v0 : Cert.KernelIdeal.S3x3x1000000.Idx → F .f32) (ix3 c k p)
      = (m ((d.tc : Thread Cert.KernelIdeal.nD Cert.KernelIdeal.τ).loc Cert.KernelIdeal.main_arg1) : Cert.KernelIdeal.S1000000x3x3.Idx → F .f32) (ix3 p c k) := by
  have e : (Cert.KernelIdeal.Gen.V m d Cert.KernelIdeal.main_v0 : Cert.KernelIdeal.S3x3x1000000.Idx → F .f32)
      = transpose Cert.KernelIdeal.S3x3x1000000 [1, 2, 0]
        (m ((d.tc : Thread Cert.KernelIdeal.nD Cert.KernelIdeal.τ).loc Cert.KernelIdeal.main_arg1) : Cert.KernelIdeal.S1000000x3x3.Idx → F .f32)
        Cert.KernelIdeal.Facts₀.transposes_S1000000x3x3_S3x3x1000000_1_2_0 := by
    simp only [Cert.KernelIdeal.Gen.V]
    after_results_simp <;> rfl
  rw [e]
  refine transpose_apply _ _ _ _ _ fun b => ?_
  match b with
  | ⟨0, _⟩ => rfl
  | ⟨1, _⟩ => rfl
  | ⟨2, _⟩ => rfl

/-- From memories that agree on the arguments, the index list counting up from nought, the kernel and the reference, read
    over the extended reals, end with one result and with their arguments unchanged. -/
theorem agree : Cert.algebraic_KernelIdeal_ReferenceIdeal_pre_in_order := by
  intro m g m' g' hpre hargs
  refine ⟨fun c => image (F := Ideal) (m ((c.tc : Thread Cert.KernelIdeal.nD Cert.KernelIdeal.τ).loc Cert.KernelIdeal.main_arg0))
      (Cert.KernelIdeal.Gen.V m c Cert.KernelIdeal.main_v0),
    (θ_run _ _ _).mono (fun _ h => h.1) (run m g),
    (θ_run _ _ _).mono (fun _ h c => ⟨(h c).1.trans ?_, (h c).2⟩) (Cert.ReferenceIdeal.Value.run m' g')⟩
  obtain ⟨e0, e1, e2⟩ := hargs c
  have o : Ordered (m' ((c.tc : Thread Cert.ReferenceIdeal.nD Cert.ReferenceIdeal.τ).loc Cert.ReferenceIdeal.main_arg2)) := by
    rw [e2]
    exact ordered_of _ _ _ (hpre c)
  have q := rebuilt_eq (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (broadcastInDim Cert.ReferenceIdeal.S1000000x3x1 ![] Cert.ReferenceIdeal.Facts₀.bcast_S_S1000000x3x1 (constant Cert.ReferenceIdeal.S_ .f32 0x7FC00000#32)) o
    (Cert.KernelIdeal.Gen.V m c Cert.KernelIdeal.main_v0) fun a k p => (matrices m c a k p).trans (congrFun e1.symm _)
  have q' := q.trans (congrArg (fun x => image (F := Ideal) x (Cert.KernelIdeal.Gen.V m c Cert.KernelIdeal.main_v0)) e0)
  refine Eq.trans ?_ q'
  unfold rebuilt unrows taken within marks rows
  rfl

end Cert.Rotation

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_order
public import proofs.«01_k».proof.Proof.Frames
public import proofs.«01_k».proof.Proof.Agree

@[expose] public section

noncomputable section

namespace Cert.Proof

open Cert.Rotation

/-- Everything claimed holds. -/
theorem claim : Cert.Claim :=
  ⟨Cert.Kernel.Gen.facts, Cert.KernelIdeal.Gen.facts, Cert.ReferenceIdeal.Gen.facts, Cert.Pre_in_order.Gen.facts,
    fun m g _ => kernel_frame m g,
    fun m g _ => exact_frame m g,
    fun m g _ => exact_frame m g,
    fun m g _ => reference_frame m g,
    fun m g _ => reference_frame m g,
    trivial,
    agree⟩

end Cert.Proof

end
